-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x128x512 : Shape := ⟨3, ![64, 128, 512]⟩
abbrev S64x512x4 : Shape := ⟨3, ![64, 512, 4]⟩
abbrev S1024x192 : Shape := ⟨2, ![1024, 192]⟩
abbrev S512x64 : Shape := ⟨2, ![512, 64]⟩
abbrev S512x96 : Shape := ⟨2, ![512, 96]⟩
abbrev S512x128 : Shape := ⟨2, ![512, 128]⟩
abbrev S512x160 : Shape := ⟨2, ![512, 160]⟩
abbrev S512x192 : Shape := ⟨2, ![512, 192]⟩
abbrev S100x1024 : Shape := ⟨2, ![100, 1024]⟩
abbrev S64x4x512 : Shape := ⟨3, ![64, 4, 512]⟩
abbrev S64x132x192 : Shape := ⟨3, ![64, 132, 192]⟩
abbrev S8x128x512 : Shape := ⟨3, ![8, 128, 512]⟩
abbrev S8x4x512 : Shape := ⟨3, ![8, 4, 512]⟩
abbrev S8x132x192 : Shape := ⟨3, ![8, 132, 192]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S32x512 : Shape := ⟨2, ![32, 512]⟩
abbrev S32x192 : Shape := ⟨2, ![32, 192]⟩
abbrev S32x1024 : Shape := ⟨2, ![32, 1024]⟩
abbrev S32 : Shape := ⟨1, ![32]⟩
abbrev S32x1 : Shape := ⟨2, ![32, 1]⟩
abbrev S8x128x192 : Shape := ⟨3, ![8, 128, 192]⟩
abbrev S8x4x192 : Shape := ⟨3, ![8, 4, 192]⟩

abbrev nBuf : Space → Nat
  | .hbm => 12
  | .vmem => 8
  | .smem => 0
  | _ => 0

abbrev bufTy : (tb : Table) → Fin (tcTables nBuf tb) → BufTy
  | .hbm, ⟨0, _⟩ => ⟨S64x128x512, .f32⟩
  | .hbm, ⟨1, _⟩ => ⟨S64x512x4, .f32⟩
  | .hbm, ⟨2, _⟩ => ⟨S1024x192, .f32⟩
  | .hbm, ⟨3, _⟩ => ⟨S512x64, .f32⟩
  | .hbm, ⟨4, _⟩ => ⟨S512x96, .f32⟩
  | .hbm, ⟨5, _⟩ => ⟨S512x128, .f32⟩
  | .hbm, ⟨6, _⟩ => ⟨S512x160, .f32⟩
  | .hbm, ⟨7, _⟩ => ⟨S512x192, .f32⟩
  | .hbm, ⟨8, _⟩ => ⟨S100x1024, .f32⟩
  | .hbm, ⟨9, _⟩ => ⟨S100x1024, .f32⟩
  | .hbm, ⟨10, _⟩ => ⟨S64x4x512, .f32⟩
  | .hbm, ⟨11, _⟩ => ⟨S64x132x192, .f32⟩
  | .local _ .vmem, ⟨0, _⟩ => ⟨S8x128x512, .f32⟩
  | .local _ .vmem, ⟨1, _⟩ => ⟨S8x128x512, .f32⟩
  | .local _ .vmem, ⟨2, _⟩ => ⟨S8x4x512, .f32⟩
  | .local _ .vmem, ⟨3, _⟩ => ⟨S8x4x512, .f32⟩
  | .local _ .vmem, ⟨4, _⟩ => ⟨S512x192, .f32⟩
  | .local _ .vmem, ⟨5, _⟩ => ⟨S1024x192, .f32⟩
  | .local _ .vmem, ⟨6, _⟩ => ⟨S8x132x192, .f32⟩
  | .local _ .vmem, ⟨7, _⟩ => ⟨S8x132x192, .f32⟩
  | _, _ => ⟨S64x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x132x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S64x128x512 : Shape := ⟨3, ![64, 128, 512]⟩
abbrev S64x512x4 : Shape := ⟨3, ![64, 512, 4]⟩
abbrev S1024x192 : Shape := ⟨2, ![1024, 192]⟩
abbrev S512x64 : Shape := ⟨2, ![512, 64]⟩
abbrev S512x96 : Shape := ⟨2, ![512, 96]⟩
abbrev S512x128 : Shape := ⟨2, ![512, 128]⟩
abbrev S512x160 : Shape := ⟨2, ![512, 160]⟩
abbrev S512x192 : Shape := ⟨2, ![512, 192]⟩
abbrev S100x1024 : Shape := ⟨2, ![100, 1024]⟩
abbrev S64x4x512 : Shape := ⟨3, ![64, 4, 512]⟩
abbrev S64x132x512 : Shape := ⟨3, ![64, 132, 512]⟩
abbrev S100x192 : Shape := ⟨2, ![100, 192]⟩
abbrev S192x100 : Shape := ⟨2, ![192, 100]⟩
abbrev S100x100 : Shape := ⟨2, ![100, 100]⟩
abbrev S_ : Shape := ⟨0, ![]⟩
abbrev S100 : Shape := ⟨1, ![100]⟩
abbrev S100x1 : Shape := ⟨2, ![100, 1]⟩
abbrev S64x132x64 : Shape := ⟨3, ![64, 132, 64]⟩
abbrev S64x132x96 : Shape := ⟨3, ![64, 132, 96]⟩
abbrev S64x132x128 : Shape := ⟨3, ![64, 132, 128]⟩
abbrev S64x132x160 : Shape := ⟨3, ![64, 132, 160]⟩
abbrev S64x132x192 : Shape := ⟨3, ![64, 132, 192]⟩
abbrev S192x1024 : Shape := ⟨2, ![192, 1024]⟩
abbrev S64x132x1024 : Shape := ⟨3, ![64, 132, 1024]⟩
abbrev S64x132 : Shape := ⟨2, ![64, 132]⟩
abbrev S64x132x1 : Shape := ⟨3, ![64, 132, 1]⟩
abbrev S64x132x2 : Shape := ⟨3, ![64, 132, 2]⟩

abbrev nBuf : Space → Nat
  | .hbm => 98
  | .vmem => 0
  | .smem => 0
  | _ => 0

abbrev bufTy : (tb : Table) → Fin (tcTables nBuf tb) → BufTy
  | .hbm, ⟨0, _⟩ => ⟨S64x128x512, .f32⟩
  | .hbm, ⟨1, _⟩ => ⟨S64x512x4, .f32⟩
  | .hbm, ⟨2, _⟩ => ⟨S1024x192, .f32⟩
  | .hbm, ⟨3, _⟩ => ⟨S512x64, .f32⟩
  | .hbm, ⟨4, _⟩ => ⟨S512x96, .f32⟩
  | .hbm, ⟨5, _⟩ => ⟨S512x128, .f32⟩
  | .hbm, ⟨6, _⟩ => ⟨S512x160, .f32⟩
  | .hbm, ⟨7, _⟩ => ⟨S512x192, .f32⟩
  | .hbm, ⟨8, _⟩ => ⟨S100x1024, .f32⟩
  | .hbm, ⟨9, _⟩ => ⟨S100x1024, .f32⟩
  | .hbm, ⟨10, _⟩ => ⟨S64x4x512, .f32⟩
  | .hbm, ⟨11, _⟩ => ⟨S64x132x512, .f32⟩
  | .hbm, ⟨12, _⟩ => ⟨S100x192, .f32⟩
  | .hbm, ⟨13, _⟩ => ⟨S100x192, .f32⟩
  | .hbm, ⟨14, _⟩ => ⟨S192x100, .f32⟩
  | .hbm, ⟨15, _⟩ => ⟨S100x100, .f32⟩
  | .hbm, ⟨16, _⟩ => ⟨S_, .f32⟩
  | .hbm, ⟨17, _⟩ => ⟨S100x100, .f32⟩
  | .hbm, ⟨18, _⟩ => ⟨S100x100, .f32⟩
  | .hbm, ⟨19, _⟩ => ⟨S_, .f32⟩
  | .hbm, ⟨20, _⟩ => ⟨S100, .f32⟩
  | .hbm, ⟨21, _⟩ => ⟨S_, .f32⟩
  | .hbm, ⟨22, _⟩ => ⟨S100, .f32⟩
  | .hbm, ⟨23, _⟩ => ⟨S100, .f32⟩
  | .hbm, ⟨24, _⟩ => ⟨S100x1, .f32⟩
  | .hbm, ⟨25, _⟩ => ⟨S100x100, .f32⟩
  | .hbm, ⟨26, _⟩ => ⟨S100x100, .f32⟩
  | .hbm, ⟨27, _⟩ => ⟨S100x100, .f32⟩
  | .hbm, ⟨28, _⟩ => ⟨S_, .f32⟩
  | .hbm, ⟨29, _⟩ => ⟨S100, .f32⟩
  | .hbm, ⟨30, _⟩ => ⟨S100x1, .f32⟩
  | .hbm, ⟨31, _⟩ => ⟨S100x100, .f32⟩
  | .hbm, ⟨32, _⟩ => ⟨S100x100, .f32⟩
  | .hbm, ⟨33, _⟩ => ⟨S192x100, .f32⟩
  | .hbm, ⟨34, _⟩ => ⟨S100x100, .f32⟩
  | .hbm, ⟨35, _⟩ => ⟨S_, .f32⟩
  | .hbm, ⟨36, _⟩ => ⟨S100x100, .f32⟩
  | .hbm, ⟨37, _⟩ => ⟨S100x100, .f32⟩
  | .hbm, ⟨38, _⟩ => ⟨S_, .f32⟩
  | .hbm, ⟨39, _⟩ => ⟨S100, .f32⟩
  | .hbm, ⟨40, _⟩ => ⟨S_, .f32⟩
  | .hbm, ⟨41, _⟩ => ⟨S100, .f32⟩
  | .hbm, ⟨42, _⟩ => ⟨S100, .f32⟩
  | .hbm, ⟨43, _⟩ => ⟨S100x1, .f32⟩
  | .hbm, ⟨44, _⟩ => ⟨S100x100, .f32⟩
  | .hbm, ⟨45, _⟩ => ⟨S100x100, .f32⟩
  | .hbm, ⟨46, _⟩ => ⟨S100x100, .f32⟩
  | .hbm, ⟨47, _⟩ => ⟨S_, .f32⟩
  | .hbm, ⟨48, _⟩ => ⟨S100, .f32⟩
  | .hbm, ⟨49, _⟩ => ⟨S100x1, .f32⟩
  | .hbm, ⟨50, _⟩ => ⟨S100x100, .f32⟩
  | .hbm, ⟨51, _⟩ => ⟨S100x100, .f32⟩
  | .hbm, ⟨52, _⟩ => ⟨S64x132x64, .f32⟩
  | .hbm, ⟨53, _⟩ => ⟨S64x132x96, .f32⟩
  | .hbm, ⟨54, _⟩ => ⟨S64x132x128, .f32⟩
  | .hbm, ⟨55, _⟩ => ⟨S64x132x160, .f32⟩
  | .hbm, ⟨56, _⟩ => ⟨S64x132x192, .f32⟩
  | .hbm, ⟨57, _⟩ => ⟨S192x1024, .f32⟩
  | .hbm, ⟨58, _⟩ => ⟨S64x132x1024, .f32⟩
  | .hbm, ⟨59, _⟩ => ⟨S_, .f32⟩
  | .hbm, ⟨60, _⟩ => ⟨S64x132, .f32⟩
  | .hbm, ⟨61, _⟩ => ⟨S_, .f32⟩
  | .hbm, ⟨62, _⟩ => ⟨S64x132, .f32⟩
  | .hbm, ⟨63, _⟩ => ⟨S64x132, .f32⟩
  | .hbm, ⟨64, _⟩ => ⟨S64x132x1, .f32⟩
  | .hbm, ⟨65, _⟩ => ⟨S64x132x1024, .f32⟩
  | .hbm, ⟨66, _⟩ => ⟨S64x132x1024, .f32⟩
  | .hbm, ⟨67, _⟩ => ⟨S64x132x1024, .f32⟩
  | .hbm, ⟨68, _⟩ => ⟨S_, .f32⟩
  | .hbm, ⟨69, _⟩ => ⟨S64x132, .f32⟩
  | .hbm, ⟨70, _⟩ => ⟨S64x132x1, .f32⟩
  | .hbm, ⟨71, _⟩ => ⟨S64x132x1024, .f32⟩
  | .hbm, ⟨72, _⟩ => ⟨S64x132x1024, .f32⟩
  | .hbm, ⟨73, _⟩ => ⟨S64x132x192, .f32⟩
  | .hbm, ⟨74, _⟩ => ⟨S64x132x2, .f32⟩
  | .hbm, ⟨75, _⟩ => ⟨S64x132x2, .i32⟩
  | .hbm, ⟨76, _⟩ => ⟨S64x132x1, .i32⟩
  | .hbm, ⟨77, _⟩ => ⟨S64x132, .i32⟩
  | .hbm, ⟨78, _⟩ => ⟨S_, .i32⟩
  | .hbm, ⟨79, _⟩ => ⟨S64x132, .i32⟩
  | .hbm, ⟨80, _⟩ => ⟨S64x132, .i1⟩
  | .hbm, ⟨81, _⟩ => ⟨S_, .i32⟩
  | .hbm, ⟨82, _⟩ => ⟨S64x132, .i32⟩
  | .hbm, ⟨83, _⟩ => ⟨S64x132, .i32⟩
  | .hbm, ⟨84, _⟩ => ⟨S64x132, .i32⟩
  | .hbm, ⟨85, _⟩ => ⟨S64x132x1, .i32⟩
  | .hbm, ⟨86, _⟩ => ⟨S64x132x192, .f32⟩
  | .hbm, ⟨87, _⟩ => ⟨S64x132x1, .i32⟩
  | .hbm, ⟨88, _⟩ => ⟨S64x132, .i32⟩
  | .hbm, ⟨89, _⟩ => ⟨S_, .i32⟩
  | .hbm, ⟨90, _⟩ => ⟨S64x132, .i32⟩
  | .hbm, ⟨91, _⟩ => ⟨S64x132, .i1⟩
  | .hbm, ⟨92, _⟩ => ⟨S_, .i32⟩
  | .hbm, ⟨93, _⟩ => ⟨S64x132, .i32⟩
  | .hbm, ⟨94, _⟩ => ⟨S64x132, .i32⟩
  | .hbm, ⟨95, _⟩ => ⟨S64x132, .i32⟩
  | .hbm, ⟨96, _⟩ => ⟨S64x132x1, .i32⟩
  | .hbm, ⟨97, _⟩ => ⟨S64x132x192, .f32⟩
  | _, _ => ⟨S64x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_cst : Ref sig .tc := ⟨.hbm, 16, rfl⟩
abbrev main_call0_v0 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call1_cst : Ref sig .tc := ⟨.hbm, 35, rfl⟩
abbrev main_call1_v0 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_values : Ref sig .tc := ⟨.hbm, 74, rfl⟩
abbrev main_indices : Ref sig .tc := ⟨.hbm, 75, rfl⟩
abbrev main_v51 : Ref sig .tc := ⟨.hbm, 76, rfl⟩
abbrev main_v52 : Ref sig .tc := ⟨.hbm, 77, rfl⟩
abbrev main_c : Ref sig .tc := ⟨.hbm, 78, rfl⟩
abbrev main_v53 : Ref sig .tc := ⟨.hbm, 79, rfl⟩
abbrev main_v54 : Ref sig .tc := ⟨.hbm, 80, rfl⟩
abbrev main_c_8 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_9 : Ref sig .tc := ⟨.hbm, 89, rfl⟩
abbrev main_v62 : Ref sig .tc := ⟨.hbm, 90, rfl⟩
abbrev main_v63 : Ref sig .tc := ⟨.hbm, 91, rfl⟩
abbrev main_c_10 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩

abbrev nD : Nat := 1
abbrev τ : Topo := Topo.v7x

variable {F : FTy → Type} [FloatOps F]
-- ==== Proof.Memory.Row.lean ====
/-
  The mathematics of one token: what memory attention makes of one row of the input.

  A token is a row `h` of 512 numbers. Its query is `h · W` (192 numbers), its score against memory slot `k` is the inner
  product of the query with row `k` of the memory, the scores' softmax over the 1024 slots gives the weights, and the result
  is the weighted sum of the memory's rows. Everything is over the extended reals.
-/
module

public import Idealize.ShloMosaic.Lib.Pointwise
public import Idealize.ShloMosaic.PureOps.Ideal

@[expose] public section

noncomputable section

namespace Cert.Memory

open Idealize.ShloMosaic

/-- The projection: 512 inputs to 192 query coordinates. -/
abbrev Weights : Type := (⟨2, ![512, 192]⟩ : Shape).Idx → Ideal .f32
/-- The memory: 1024 slots of 192 coordinates. -/
abbrev Slots : Type := (⟨2, ![1024, 192]⟩ : Shape).Idx → Ideal .f32

/-- The score of a token `h` against slot `k`: its query's inner product with the slot. -/
def score (W : Weights) (M : Slots) (h : Fin 512 → Ideal .f32) (k : Fin 1024) : Ideal .f32 :=
  ∑ j : Fin 192, (∑ l : Fin 512, h l * W (ix2 l j)) * M (ix2 k j)

/-- The greatest score of the token: the maximum over the slots, from −∞. -/
def top (W : Weights) (M : Slots) (h : Fin 512 → Ideal .f32) : Ideal .f32 :=
  Finset.univ.fold FloatOps.maximumf (Ideal.ofBits .f32 0xFF800000#32) fun k : Fin 1024 => score W M h k

/-- The weight of slot `k` before it is normalised: the exponential of the score less the greatest score. -/
def raw (W : Weights) (M : Slots) (h : Fin 512 → Ideal .f32) (k : Fin 1024) : Ideal .f32 :=
  Ideal.exp (score W M h k - top W M h)

/-- Coordinate `d` of the token's result: the slots' rows weighted by the softmax of the scores. -/
def attend (W : Weights) (M : Slots) (h : Fin 512 → Ideal .f32) (d : Fin 192) : Ideal .f32 :=
  ∑ k : Fin 1024, Ideal.div (raw W M h k) (∑ k' : Fin 1024, raw W M h k') * M (ix2 k d)

end Cert.Memory

end
-- ==== Proof.Memory.Payload.lean ====
/-
  What the kernel's body computes at one grid point: each of its two stores, read at an index, is the attention of one
  token. The body flattens its block of tokens to a matrix of rows (row `b · 128 + r`, and `b · 4 + r` for the marks), and
  unflattens the result the same way, so entry `(b, r, d)` depends on token `(b, r)` alone.
-/
module

public import proofs.«01_k».proof.Proof.Memory.Row
public import proofs.«01_k».proof.Proof.Gen.KernelIdeal.Skeleton

@[expose] public section

set_option maxRecDepth 16384

noncomputable section

namespace Cert.Memory

open Idealize.ShloMosaic Cert.KernelIdeal Cert.KernelIdeal.Gen

/-- The quotient of a flattened row number is its block. -/
theorem row_div {n p : ℕ} (b : Fin n) (r : Fin p) (h : (↑b * p + ↑r) / p < n) :
    (⟨(↑b * p + ↑r) / p, h⟩ : Fin n) = b := by
  have hr := r.isLt
  apply Fin.ext
  show (↑b * p + ↑r) / p = ↑b
  rw [Nat.mul_comm, Nat.mul_add_div (by omega), Nat.div_eq_of_lt hr, Nat.add_zero]

/-- The remainder of a flattened row number is its row. -/
theorem row_mod {n p : ℕ} (b : Fin n) (r : Fin p) (h : (↑b * p + ↑r) % p < p) :
    (⟨(↑b * p + ↑r) % p, h⟩ : Fin p) = r := by
  apply Fin.ext
  show (↑b * p + ↑r) % p = ↑r
  rw [Nat.mul_add_mod', Nat.mod_eq_of_lt r.isLt]

/-- The first store, of the block of `x`: entry `(b, r, d)` is coordinate `d` of the attention of token `(b, r)`. -/
theorem series_apply (M : Slots) (W : Weights) (X : Vec Ideal S8x128x512 .f32) (b : Fin 8) (r : Fin 128) (d : Fin 192) :
    k0_pay1 (F := Ideal) M W X (ix3 b r d) = attend W M (fun l => X (ix3 b r l)) d := by
  pointwise [k0_pay1]
  simp only [row_div, row_mod]
  rfl

/-- The second store, of the block of the transposed marks, likewise. -/
theorem marks_apply (M : Slots) (W : Weights) (X : Vec Ideal S8x4x512 .f32) (b : Fin 8) (r : Fin 4) (d : Fin 192) :
    k0_pay2 (F := Ideal) M W X (ix3 b r d) = attend W M (fun l => X (ix3 b r l)) d := by
  pointwise [k0_pay2]
  simp only [row_div, row_mod]
  rfl

end Cert.Memory

end
-- ==== Proof.Memory.Reference.lean ====
/-
  What the reference computes, read at an index: the attention of token `r` of batch `B`, where the first 128 tokens of a
  batch are the rows of `x` and the last 4 the columns of `x_mark`.
-/
module

public import proofs.«01_k».proof.Proof.Memory.Row
public import proofs.«01_k».proof.Proof.Gen.ReferenceIdeal.Run

@[expose] public section

set_option maxRecDepth 16384

noncomputable section

namespace Cert.Memory

open Idealize.ShloMosaic

/-- Token `r` of batch `B`: a row of `x` below 128, a column of the marks from there on. -/
def token (x : (⟨3, ![64, 128, 512]⟩ : Shape).Idx → Ideal .f32) (marks : (⟨3, ![64, 512, 4]⟩ : Shape).Idx → Ideal .f32)
    (B : Fin 64) (r : Fin 132) (l : Fin 512) : Ideal .f32 :=
  if h : (r : ℕ) < 128 then x (ix3 B ⟨r, h⟩ l) else marks (ix3 B l ⟨r - 128, by omega⟩)

/-- The result of the problem as one array: every token's attention. -/
def answer (x : (⟨3, ![64, 128, 512]⟩ : Shape).Idx → Ideal .f32) (marks : (⟨3, ![64, 512, 4]⟩ : Shape).Idx → Ideal .f32)
    (W : Weights) (M : Slots) : (⟨3, ![64, 132, 192]⟩ : Shape).Idx → Ideal .f32 :=
  fun i => attend W M (token x marks (i 0) (i 1)) (i 2)

section

open Cert.ReferenceIdeal Cert.ReferenceIdeal.Gen

/-- The tokens as the reference lays them out: `x` with the transposed marks behind it. -/
abbrev hostTokens (x : FVec Ideal S64x128x512 .f32) (marks : FVec Ideal S64x512x4 .f32) : FVec Ideal S64x132x512 .f32 :=
  concatenate S64x132x512 1 [⟨S64x128x512, x⟩, ⟨S64x4x512, transpose S64x4x512 [0, 2, 1] marks transposes_S64x512x4_S64x4x512_0_2_1⟩]
    concatenates_S64x128x512_S64x4x512_S64x132x512_d1

/-- The scores as the reference computes them: the queries against the transposed memory. -/
abbrev hostScores (T : FVec Ideal S64x132x512 .f32) (W : FVec Ideal S512x192 .f32) (M : FVec Ideal S1024x192 .f32) :
    FVec Ideal S64x132x1024 .f32 :=
  Host.dotGeneral dot_S64x132x192_S192x1024_S64x132x1024_2_0_01_1_n_n none
    (Host.dotGeneral dot_S64x132x512_S512x192_S64x132x192_2_0_01_1_n_n none T W)
    (transpose S192x1024 [1, 0] M transposes_S1024x192_S192x1024_1_0)

/-- The exponentials of the scores less their maximum, as the reference's softmax computes them from its constant `v`. -/
abbrev hostRaw (v : FVec Ideal S_ .f32) (s : FVec Ideal S64x132x1024 .f32) : FVec Ideal S64x132x1024 .f32 :=
  Host.exp (subf s (broadcastInDim S64x132x1024 ![0, 1, 2] bcast_S64x132x1_S64x132x1024_0_1_2
    (broadcastInDim S64x132x1 ![0, 1] bcast_S64x132_S64x132x1_0_1
      (maximumf (broadcastInDim S64x132 ![] bcast_S_S64x132 v)
        (Host.reduce FloatOps.maximumf s v reducesTo_S64x132x1024_S64x132_d2 h_S_)))))

/-- The rest of the reference: the exponentials over their sum, times the memory. -/
abbrev hostMix (e : FVec Ideal S64x132x1024 .f32) (M : FVec Ideal S1024x192 .f32) : FVec Ideal S64x132x192 .f32 :=
  Host.dotGeneral dot_S64x132x1024_S1024x192_S64x132x192_2_0_01_1_n_n none
    (Host.divf e (broadcastInDim S64x132x1024 ![0, 1, 2] bcast_S64x132x1_S64x132x1024_0_1_2
      (broadcastInDim S64x132x1 ![0, 1] bcast_S64x132_S64x132x1_0_1
        (Host.reduceAdd e (constant S_ .f32 0x00000000#32) reducesTo_S64x132x1024_S64x132_d2 h_S_)))) M

/-- A row of the concatenation is a token. -/
theorem hostTokens_apply (x : FVec Ideal S64x128x512 .f32) (marks : FVec Ideal S64x512x4 .f32) (B : Fin 64) (r : Fin 132) (l : Fin 512) :
    hostTokens x marks (ix3 B r l) = token x marks B r l := by
  pointwise [hostTokens]
  rfl

/-- A score of the reference is the score of its token. -/
theorem hostScores_apply (T : FVec Ideal S64x132x512 .f32) (W : Weights) (M : Slots) (B : Fin 64) (r : Fin 132) (k : Fin 1024) :
    hostScores T W M (ix3 B r k) = score W M (fun l => T (ix3 B r l)) k := by
  pointwise [hostScores, score]

/-- Taking the maximum with −∞ once more, as the reference does, changes nothing. -/
theorem top_absorb (W : Weights) (M : Slots) (h : Fin 512 → Ideal .f32) :
    max (Ideal.ofBits .f32 0xFF800000#32) (top W M h) = top W M h :=
  max_eq_right (Finset.le_fold_max _ |>.mpr (.inl le_rfl))

/-- A maximum along the last axis of a three-dimensional array, read at an index: the fold over that axis. -/
theorem lastMax_apply {p q n : ℕ} (s : FVec Ideal ⟨3, ![p, q, n]⟩ .f32) (v : FVec Ideal ⟨0, ![]⟩ .f32)
    (h : (⟨3, ![p, q, n]⟩ : Shape).ReducesTo [2] ⟨2, ![p, q]⟩) (hu : 0 < (⟨0, ![]⟩ : Shape).numel) (B : Fin p) (r : Fin q) :
    Host.reduce FloatOps.maximumf s v h hu (ix2 B r)
      = Finset.univ.fold FloatOps.maximumf (v ix0) fun k : Fin n => s (ix3 B r k) := by
  rw [Host.reduce_eq_fold, Shape.ReducesTo.fold_fiber_r3_a2, show Shape.Idx.first hu = ix0 from funext fun a => a.elim0]
  rfl

/-- An exponential of the reference, at an index. -/
theorem hostRaw_apply (v : FVec Ideal S_ .f32) (s : FVec Ideal S64x132x1024 .f32) (B : Fin 64) (r : Fin 132) (k : Fin 1024) :
    hostRaw v s (ix3 B r k) = Ideal.exp (s (ix3 B r k) - max (v ix0)
      (Finset.univ.fold FloatOps.maximumf (v ix0) fun k' : Fin 1024 => s (ix3 B r k'))) := by
  rw [← lastMax_apply s v reducesTo_S64x132x1024_S64x132_d2 h_S_ B r]
  unfold hostRaw
  generalize Host.reduce FloatOps.maximumf s v reducesTo_S64x132x1024_S64x132_d2 h_S_ = t
  pointwise

/-- The last product of the reference, at an index. -/
theorem hostMix_apply (e : FVec Ideal S64x132x1024 .f32) (M : FVec Ideal S1024x192 .f32) (B : Fin 64) (r : Fin 132) (d : Fin 192) :
    hostMix e M (ix3 B r d) = ∑ k, Ideal.div (e (ix3 B r k)) (∑ k', e (ix3 B r k')) * M (ix2 k d) := by
  pointwise [hostMix]

/-- An exponential of the reference's scores is the unnormalised weight of its token's slot. -/
theorem hostWeights_apply (v : FVec Ideal S_ .f32) (hv : v ix0 = Ideal.ofBits .f32 0xFF800000#32) (T : FVec Ideal S64x132x512 .f32)
    (W : Weights) (M : Slots) (B : Fin 64) (r : Fin 132) (k : Fin 1024) :
    hostRaw v (hostScores T W M) (ix3 B r k) = raw W M (fun l => T (ix3 B r l)) k := by
  have hs (k' : Fin 1024) := hostScores_apply T W M B r k'
  generalize hostScores T W M = s at hs ⊢
  rw [hostRaw_apply, hv, raw, ← top_absorb, top]
  simp only [hs]

/-- The reference's term is the problem's result. -/
theorem host_eq (v : FVec Ideal S_ .f32) (hv : v ix0 = Ideal.ofBits .f32 0xFF800000#32)
    (x : FVec Ideal S64x128x512 .f32) (marks : FVec Ideal S64x512x4 .f32) (W : Weights) (M : Slots) :
    hostMix (hostRaw v (hostScores (hostTokens x marks) W M)) M = answer x marks W M := by
  have ht := hostTokens_apply x marks
  generalize hostTokens x marks = T at ht ⊢
  have hw := hostWeights_apply v hv T W M
  generalize hostRaw v (hostScores T W M) = e at hw ⊢
  funext i
  idx_vars i
  rw [hostMix_apply]
  simp only [hw, ht]
  rfl

end

end Cert.Memory

end
-- ==== Proof.Memory.Block.lean ====
/-
  What the kernel leaves in its result: one grid point's block, then the whole array from the eight blocks.
-/
module

public import proofs.«01_k».proof.Proof.Memory.Payload
public import proofs.«01_k».proof.Proof.Memory.Reference
public import proofs.«01_k».proof.Proof.Gen.KernelIdeal.Value
public import Idealize.ShloMosaic.Lib.Pipeline.ValueKit
public import Idealize.ShloMosaic.Lib.Claim

@[expose] public section

set_option maxRecDepth 16384

noncomputable section

namespace Cert.Memory

open Idealize.ShloMosaic Idealize.ShloMosaic.TcCoe Cert.KernelIdeal Cert.KernelIdeal.Gen

variable (m : (ℓ : Loc nD τ sig) → Buf (Elt Ideal) ℓ)

/-- A token of a block: a row of the block of `x` below 128, a row of the block of transposed marks from there on. -/
def blockToken (X : Vec Ideal S8x128x512 .f32) (Y : Vec Ideal S8x4x512 .f32) (b : Fin 8) (r : Fin 132) (l : Fin 512) : Ideal .f32 :=
  if h : (r : ℕ) < 128 then X (ix3 b ⟨r, h⟩ l) else Y (ix3 b ⟨r - 128, by omega⟩ l)

/-- What one grid point leaves in the block of the result: the attention of every token of its input blocks. -/
theorem block_apply (c : Dev nD) (t : Fin cfg0.N) (b : Fin 8) (r : Fin 132) (d : Fin 192) :
    outsAt0 m c t (ix3 b r d)
      = attend (iblk m c 2 t) (iblk m c 3 t) (blockToken (iblk m c 0 t) (iblk m c 1 t) b r) d := by
  unfold outsAt0
  generalize iblk m c 0 t = X
  generalize iblk m c 1 t = Y
  generalize iblk m c 2 t = W
  generalize iblk m c 3 t = M
  frame_out
  canon_tiles x h using View.cover_of_tiledBy (s := S8x132x192) _ ![8, 4, 192] (by sl_kernel_rfl) (ix3 b r d)
  · idx_vars x
    obtain rfl : b = x0 := Fin.ext h0
    obtain rfl : d = x2 := Fin.ext h2
    have hr : (r : ℕ) = 128 + x1 := h1
    have e : x1 = ⟨(r : ℕ) - 128, by omega⟩ := Fin.ext (by show (x1 : ℕ) = r - 128; omega)
    rw [marks_apply, show blockToken X Y b r = fun l => Y (ix3 b x1 l) from
      funext fun l => (dif_neg (by omega)).trans (congrArg (fun s => Y (ix3 b s l)) e.symm)]
  · idx_vars x
    obtain rfl : b = x0 := Fin.ext h0
    obtain rfl : d = x2 := Fin.ext h2
    have hr : (r : ℕ) = x1 := h1
    have e : x1 = ⟨(r : ℕ), by omega⟩ := Fin.ext hr.symm
    rw [series_apply, show blockToken X Y b r = fun l => X (ix3 b x1 l) from
      funext fun l => (dif_pos (by omega)).trans (congrArg (fun s => X (ix3 b s l)) e.symm)]

/-- The array the second window stages is the transposed marks. -/
theorem entry_marks (c : Dev nD) (B : Fin 64) (s : Fin 4) (l : Fin 512) :
    (V m c main_v0 : Vec Ideal S64x4x512 .f32) (ix3 B s l) = (m ((c : Thread nD τ).loc main_arg1) : Vec Ideal S64x512x4 .f32) (ix3 B l s) := by
  entry_read
  pointwise

/-- Where each window's block lies at a point: the blocks of `x`, of the marks and of the result at batches `8 t …`, the
    projection and the memory whole. -/
theorem index_points : ∀ t : Fin cfg0.N, win0_0.index t = ![t.val, 0, 0] ∧ win0_1.index t = ![t.val, 0, 0]
    ∧ win0_2.index t = ![0, 0] ∧ win0_3.index t = ![0, 0] ∧ win0_4.index t = ![t.val, 0, 0] :=
  (by decide +kernel : ∀ t : Fin grid0.N, _)

/-- Batch `b` of the block at point `t`, in the whole array. -/
def batch (t : Fin cfg0.N) (b : Fin 8) : Fin 64 :=
  ⟨t.val * 8 + b.val, by have := t.isLt; have : cfg0.N = 8 := rfl; omega⟩

/-- The first window's block at a point, at an index of `x`. -/
theorem series_block (c : Dev nD) (t : Fin cfg0.N) (b : Fin 8) (r : Fin 128) (l : Fin 512) :
    iblk m c 0 t (ix3 b r l) = (m ((c : Thread nD τ).loc main_arg0) : Vec Ideal S64x128x512 .f32) (ix3 (batch t b) r l) := by
  obtain ⟨e0, -⟩ := index_points t
  blk_simp [iblk]
  rw [V_main_arg0]
  refine congrArg _ ?_
  blk_ext [e0, batch]

/-- The second window's block at a point, at an index of the marks. -/
theorem marks_block (c : Dev nD) (t : Fin cfg0.N) (b : Fin 8) (s : Fin 4) (l : Fin 512) :
    iblk m c 1 t (ix3 b s l) = (m ((c : Thread nD τ).loc main_arg1) : Vec Ideal S64x512x4 .f32) (ix3 (batch t b) l s) := by
  obtain ⟨-, e1, -⟩ := index_points t
  refine Eq.trans ?_ (entry_marks m c (batch t b) s l)
  blk_simp [iblk]
  refine congrArg _ ?_
  blk_ext [e1, batch]

/-- The third window's block at any point is the whole projection. -/
theorem weights_block (c : Dev nD) (t : Fin cfg0.N) : iblk m c 2 t = m ((c : Thread nD τ).loc main_arg7) := by
  obtain ⟨-, -, e2, -⟩ := index_points t
  funext i
  blk_simp [iblk]
  rw [V_main_arg7]
  refine congrArg _ ?_
  blk_ext [e2]

/-- The fourth window's block at any point is the whole memory. -/
theorem slots_block (c : Dev nD) (t : Fin cfg0.N) : iblk m c 3 t = m ((c : Thread nD τ).loc main_arg2) := by
  obtain ⟨-, -, -, e3, -⟩ := index_points t
  funext i
  blk_simp [iblk]
  rw [V_main_arg2]
  refine congrArg _ ?_
  blk_ext [e3]

/-- A token of the input blocks is a token of the whole arrays. -/
theorem block_token (c : Dev nD) (t : Fin cfg0.N) (b : Fin 8) (r : Fin 132) :
    blockToken (iblk m c 0 t) (iblk m c 1 t) b r
      = token (m ((c : Thread nD τ).loc main_arg0)) (m ((c : Thread nD τ).loc main_arg1)) (batch t b) r := by
  funext l
  unfold blockToken token
  by_cases h : (r : ℕ) < 128
  · rw [dif_pos h, dif_pos h, series_block]
  · rw [dif_neg h, dif_neg h, marks_block]

/-- Where the result's block at a point lies in the result. -/
theorem result_place (t : Fin cfg0.N) (y : S8x132x192.Idx) :
    ((cfg0.win 4).blk t).view.emb y = ix3 (batch t (y 0)) (y 1) (y 2) := by
  obtain ⟨-, -, -, -, e4⟩ := index_points t
  blk_ext [e4, batch]

/-- The result array after the run is the problem's result of the argument arrays. -/
theorem array_eq (c : Dev nD) : (dats m 0 c).arrAt 4 cfg0.N
    = answer (m ((c : Thread nD τ).loc main_arg0)) (m ((c : Thread nD τ).loc main_arg1))
        (m ((c : Thread nD τ).loc main_arg7)) (m ((c : Thread nD τ).loc main_arg2)) := by
  refine (dats m 0 c).arrAt_eq_of_covers 4 _ (by decide +kernel) fun t hf y => ?_
  rw [result_place]
  blk_simp
  rw [after0_4]
  idx_vars y
  rw [block_apply, block_token, weights_block, slots_block]
  rfl

end Cert.Memory

end
-- ==== Proof.lean ====
/-
  The certificate: the memory-attention kernel runs and leaves its arguments as they were, at the machine's floats and at
  the extended reals; the reference does too; and at the extended reals the kernel's result is the reference's.
  Both results are `Cert.Memory.answer` of the arguments (Proof/Memory/).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Memory.Block
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel, at the extended reals, ends with the problem's result of its arguments, the arguments unchanged; so does the
    reference, from memories that agree on the arguments. -/
theorem values_agree : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.Memory.answer (m (c.tc.loc Cert.KernelIdeal.main_arg0)) (m (c.tc.loc Cert.KernelIdeal.main_arg1))
    (m (c.tc.loc Cert.KernelIdeal.main_arg7)) (m (c.tc.loc Cert.KernelIdeal.main_arg2)), ?_, ?_⟩
  · exact (θ_run Cert.KernelIdeal.defs _ _).mono (fun r h c => ⟨(h c).1.trans (Cert.Memory.array_eq m c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, -, -, -, -, e7, -⟩ := hagree c
    rw [e0, e1, e2, e7]
    exact Cert.Memory.host_eq _ rfl _ _ _ _

/-- All the claims together. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ),
  trivial, values_agree⟩

end Cert.Proof

end
